-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x2048 : Shape := ⟨3, ![4, 4096, 2048]⟩
abbrev S4096x4x2048 : Shape := ⟨3, ![4096, 4, 2048]⟩
abbrev S4096x1x2048 : Shape := ⟨3, ![4096, 1, 2048]⟩
abbrev S_ : Shape := ⟨0, ![]⟩
abbrev S128x1x2048 : Shape := ⟨3, ![128, 1, 2048]⟩
abbrev S4x1024x2048 : Shape := ⟨3, ![4, 1024, 2048]⟩

abbrev nBuf : Table → Nat
  | .hbm => 4
  | _ => 0

abbrev bufTy : (tb : Table) → Fin (nBuf tb) → BufTy
  | .hbm, ⟨0, _⟩ => ⟨S4x4096x2048, .f32⟩
  | .hbm, ⟨1, _⟩ => ⟨S4096x4x2048, .f32⟩
  | .hbm, ⟨2, _⟩ => ⟨S4096x1x2048, .f32⟩
  | .hbm, ⟨3, _⟩ => ⟨S4x1024x2048, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_r0 : BitVec 32 := 0#32
  let c0_i32_0_r0 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1_r0 : BitVec 32 := 0#32
  let c0_i32_2_r0 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x4096x2048 : Shape := ⟨3, ![4, 4096, 2048]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S4x1024x2048 : Shape := ⟨3, ![4, 1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1x1, .i32⟩
  | .hbm, ⟨21, _⟩ => ⟨S1024x1, .i32⟩
  | .hbm, ⟨22, _⟩ => ⟨S1024x1, .i1⟩
  | .hbm, ⟨23, _⟩ => ⟨S1024x1, .i1⟩
  | .hbm, ⟨24, _⟩ => ⟨S_, .i1⟩
  | .hbm, ⟨25, _⟩ => ⟨S1024, .i1⟩
  | .hbm, ⟨26, _⟩ => ⟨S4x1024x2048, .f32⟩
  | .hbm, ⟨27, _⟩ => ⟨S4x1024x2048, .i1⟩
  | .hbm, ⟨28, _⟩ => ⟨S_, .f32⟩
  | .hbm, ⟨29, _⟩ => ⟨S4x1024x2048, .f32⟩
  | .hbm, ⟨30, _⟩ => ⟨S4x1024x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Tile.lean ====
/-
  What one task of the SparseCore call does, for any float values. The task on subcore `s` of SparseCore `c` copies, in
  one transfer, rows `128 · (2 s + c) ‥ + 128` of the reshaped argument, sub-row 0 of each, to the same rows of the
  call's result. `tileRun` is its run: from those elements of both arrays to the result's elements holding `picked` of
  the argument, the function `(r, 0, k) ↦ v (r, 0, k)`. `mem_dstSet` says which rows a task writes.
-/
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Downsample

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the kernels, with no TensorCore pipeline among them. -/
abbrev ΛP : Labels := Pipeline.Sig Λ₀ (Fin 0) fun p => (pcfgs (F := F) p).Adm
/-- The one SparseCore call. -/
abbrev K : SparseCore.Cfg τ sig (ΛP (F := F)) 1 := sc (F := F)
/-- The kernels' bodies. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no buffer is a SparseCore's shared one. -/
theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The argument, the argument reshaped to groups of four rows, the call's result, the program's result. -/
abbrev aLoc (d : Dev nD) : Loc nD τ sig := (SparseCore.T d).loc main_arg0
abbrev vLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- Those two of them which the tasks name, as a task names them. -/
abbrev vM : Memref sig .scVector .hbm S4096x4x2048 .f32 := Memref.whole main_v0_scv
abbrev oM : Memref sig .scVector .hbm S4096x1x2048 .f32 := Memref.whole main_v1_scv

/-- Sub-row 0 of each row: what the call leaves in its result, of what its operand holds. -/
def picked {α : Type} (v : S4096x4x2048.Idx → α) : S4096x1x2048.Idx → α :=
  fun j => v fun | 0 => j 0 | 1 => (0 : Fin 4) | 2 => j 2

/-! ## The blocks a task names -/

section Blocks

variable (L : grid0.Coords)

/-- The number of the task at grid point `L`. -/
abbrev wid : ℕ := 2 * (L 1).val + (L 0).val

/-- The source and the destination of the task's transfer. -/
abbrev srcM : Memref sig .scVector .hbm S128x1x2048 .f32 :=
  (vM).slice (Rect.unit (s := S4096x4x2048) (k0_off2 L) S128x1x2048.size (k0_off2_inb L)) (fun _ => rfl)
abbrev dstM : Memref sig .scVector .hbm S128x1x2048 .f32 :=
  (oM).slice (Rect.unit (s := S4096x1x2048) (k0_off1 L) S128x1x2048.size (k0_off1_inb L)) (fun _ => rfl)

abbrev srcSet : Finset S4096x4x2048.Idx := (srcM L).view.set
abbrev dstSet : Finset S4096x1x2048.Idx := (dstM L).view.set

/-- Element `(i, 0, k)` of the source is element `(128 · wid + i, 0, k)` of the array, -/
theorem src_emb_val (x : S128x1x2048.Idx) (a : Fin 3) :
    ((srcM L).view.emb x a).val = (![128 * wid L, 0, 0] : Fin 3 → ℕ) a + (x a).val := by
  show k0_off2 L a + 1 * (x a).val = _
  rw [k0_off2_eq, one_mul]
  fin_cases a <;> simp [wid] <;> omega
/-- and likewise of the destination. -/
theorem dst_emb_val (x : S128x1x2048.Idx) (a : Fin 3) :
    ((dstM L).view.emb x a).val = (![128 * wid L, 0, 0] : Fin 3 → ℕ) a + (x a).val := by
  show k0_off1 L a + 1 * (x a).val = _
  rw [k0_off1_eq, one_mul]
  fin_cases a <;> simp [wid] <;> omega

/-- The task writes the elements of its 128 rows, -/
theorem mem_dstSet (j : S4096x1x2048.Idx) : j ∈ dstSet L ↔ (j 0).val / 128 = wid L := by
  constructor
  · intro h
    obtain ⟨x, -, rfl⟩ := Finset.mem_map.mp h
    have e : ((dstM L).view.emb x 0).val = 128 * wid L + (x 0).val := dst_emb_val L x 0
    have hx : (x 0).val < 128 := (x 0).isLt
    omega
  · intro h
    have h1 : (j 1).val < 1 := (j 1).isLt
    refine Finset.mem_map.mpr ⟨fun | 0 => ⟨(j 0).val % 128, Nat.mod_lt _ (by decide)⟩ | 1 => (j 1) | 2 => (j 2), Finset.mem_univ _, ?_⟩
    funext a
    apply Fin.ext
    rw [dst_emb_val]
    fin_cases a
    · show 128 * wid L + (j 0).val % 128 = (j 0).val
      omega
    · show 0 + (j 1).val = (j 1).val
      omega
    · show 0 + (j 2).val = (j 2).val
      omega
/-- and reads elements of those rows only. -/
theorem of_mem_srcSet (j : S4096x4x2048.Idx) (h : j ∈ srcSet L) : (j 0).val / 128 = wid L := by
  obtain ⟨x, -, rfl⟩ := Finset.mem_map.mp h
  have e : ((srcM L).view.emb x 0).val = 128 * wid L + (x 0).val := src_emb_val L x 0
  have hx : (x 0).val < 128 := (x 0).isLt
  omega

/-- The array `f` with the block of `v` that the task reads written where it writes is, on what it writes, `picked v`. -/
theorem written_picked (v : (vM).view.ty.Idx → Elt F .f32) (f : (oM).view.ty.Idx → Elt F .f32) (j : S4096x1x2048.Idx) (h : j ∈ dstSet L) :
    View.write (Elt F) (dstM L).view f ((srcM L).view.read (Elt F) v) Finset.univ j = picked v j := by
  obtain ⟨x, -, rfl⟩ := Finset.mem_map.mp h
  refine (View.write_emb_of_mem (v := (dstM L).view) f ((srcM L).view.read (Elt F) v) (Finset.mem_univ x)).trans ?_
  show v ((srcM L).view.emb x) = picked v ((dstM L).view.emb x)
  refine congrArg v (funext fun a => Fin.ext ?_)
  rw [src_emb_val]
  have h1 : (x 1).val < 1 := (x 1).isLt
  fin_cases a
  · exact (dst_emb_val L x 0).symm
  · show 0 + (x 1).val = 0
    omega
  · exact (dst_emb_val L x 2).symm

end Blocks

/-! ## The task's run -/

variable (d : Dev nD) (L : grid0.Coords)

/-- The subcore at grid point `L`. -/
abbrev cV (L : grid0.Coords) : Fin τ.nSC := (L 0).castLE hcore0
abbrev jV (L : grid0.Coords) : Fin τ.nSub := (L 1).castLE hsub0

/-- The cell the task's transfer credits. -/
abbrev cell (d : Dev nD) (c : Fin τ.nSC) (i : Fin τ.nSub) : GSem nD τ sig := (V d c i, .dma cc0_scoped0.sem)

/-- That cell is one of the subcore's own. -/
theorem ownSems0_V :
    (ownSems0 (V d (cV L) (jV L)) : sProp 𝕄)
      = iprop(semVal (cell d (cV L) (jV L)) 0
          ∗ bigSep ((ownCells (V d (cV L) (jV L))).erase (cell d (cV L) (jV L))) fun g => semVal g 0) := by
  unfold SparseCore.Cfg.ownSems0
  rw [SparseCore.bigSep_erase' ((mem_ownCells (g := cell d (cV L) (jV L))).mpr ⟨rfl, by
      show (SemLoc.dma cc0_scoped0.sem : SemLoc sig).isScoped .scVector = true; decide⟩)]

variable [FloatOps F]

/-- What the task is handed and hands back: the elements it reads at `v`, the elements it writes at `f`. -/
abbrev srcPts (d : Dev nD) (L : grid0.Coords) (v : Buf (Elt F) (vLoc d)) : sProp 𝕄 := vLoc d ↦[srcSet L]{fullShare} v
abbrev dstPts (d : Dev nD) (L : grid0.Coords) (f : Buf (Elt F) (oLoc d)) : sProp 𝕄 := oLoc d ↦[dstSet L]{fullShare} f

omit [FloatOps F] in
/-- The written elements with what the transfer leaves in them. -/
theorem pts_written (v : Buf (Elt F) (vLoc d)) (f : Buf (Elt F) (oLoc d)) :
    ((dstM L).view.loc (V d (cV L) (jV L)) ↦[(dstM L).view.set]{fullShare}
        (dstM L).view.writes (Elt F) f [⟨Rect.whole S128x1x2048, (srcM L).view.read (Elt F) v⟩] : sProp 𝕄)
      = dstPts d L (picked v) :=
  pointsTo_congr fun j hj => (congrFun ((View.write_univ_eq_writes_whole (dstM L).view f [] _).symm.trans rfl) j).trans (written_picked L v f j hj)

set_option maxHeartbeats 400000 in
/-- The task at grid point `L`: its transfer and the wait for it. What it writes then holds `picked v`, `v` being the
    contents of what it reads; its cell is back at zero. -/
theorem tileRun (v : Buf (Elt F) (vLoc d)) (f : Buf (Elt F) (oLoc d)) (O : CellTallies nD τ sig (HIx 1)) (W : Waits sig (HIx 1))
    (hO : ∀ g, O g none = 0) :
    iprop(levAts (K (F := F)).L (K (F := F)).lev ∗ emp ∗ (srcPts d L v ∗ dstPts d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_body L vM (Memref.isWhole_whole _) oM (Memref.isWhole_whole _) cc0_scoped0)
          fun _ => iprop((srcPts d L v ∗ dstPts d L (picked v))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_body_eq_skeleton]; unfold cc0__copy_body_skel
  rw [SparseCore.Cfg.scopedSems0_V (Val := Elt F) d (cV L) (jV L), ownSems0_V]
  iintro ⟨#Hlv, -, ⟨Hv, Ho⟩, Hbufs, ⟨Hsem, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hv' := (Entails.of_eq (show (srcPts d L v : sProp 𝕄)
    = (srcM L).view.loc (V d (cV L) (jV L)) ↦[(srcM L).view.set]{fullShare} v from rfl)) $$ Hv
  ihave Ho' := (Entails.of_eq (show (dstPts d L f : sProp 𝕄)
    = (dstM L).view.loc (V d (cV L) (jV L)) ↦[(dstM L).view.set]{fullShare} f from rfl)) $$ Ho
  sl_exec
  sl_step
  isplitl [Hv' Ho']
  · isplitl [Hv']; · iexact Hv'
    iapply (Entails.of_eq (pts_written d L v f))
    iexact Ho'
  isplitl [Hbufs]; · iexact Hbufs
  isplitl [Hsem Hsems]
  · isplitl [Hsem]; · iexact Hsem
    iexact Hsems
  iexists _; isplitr
  swap; · iexact HO
  ipureintro; intro p hp
  rcases Finset.mem_insert.mp hp with hp | hp; · exact .inr (hp ▸ rfl)
  exact .inl hp

end Cert.Proof.Downsample

end
-- ==== Proof.Launch.lean ====
/-
  The kernel's program run to its end, for any float values, from any launch memory. `@main` groups the argument's rows
  by four, hands the grouped array and the call's result to the 32 tasks — to each its own rows of both —, has them
  back, and ungroups the rows. `run_main`: every run is quiescent, the argument's array holds what it held, and the
  result's array holds `Rv`, which `Rv_eq` writes out.
-/
module

public import proofs.«01_k».proof.Proof.Tile

@[expose] public section

noncomputable section

namespace Cert.Proof.Downsample

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

/-! ## The arrays' contents -/

abbrev a' : DevRef τ sig := Proc.devRef .tc (main_arg0 : Ref sig .tc)
abbrev v' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two operations of @main around the call. -/
abbrev opIn : HloOp τ sig (Elt F) :=
  StableHlo.reshape main_arg0 main_v0 (rfl : (.f32 : EltTy) = .f32) shapeCasts_S4x4096x2048_S4096x4x2048
abbrev opOut : HloOp τ sig (Elt F) :=
  StableHlo.reshape main_v1 main_v2 (rfl : (.f32 : EltTy) = .f32) shapeCasts_S4096x1x2048_S4x1024x2048

/-- The four arrays at the launch, before the call, after the call. -/
def V0 (d : Dev nD) : Valuation τ sig (Elt F) := fun b => m (d, b)
def V1 (d : Dev nD) : Valuation τ sig (Elt F) := (opIn (F := F)).result (V0 m d)
/-- What the call finds in its operand. -/
def Xv (d : Dev nD) : Buf (Elt F) (vLoc d) := V1 m d v'
def V2 (d : Dev nD) : Valuation τ sig (Elt F) := Function.update (V1 m d) o' (picked (Xv m d))
/-- What the program leaves in its result. -/
def Rv (d : Dev nD) : Buf (Elt F) (rLoc d) := (opOut (F := F)).result (V2 m d) r'

theorem V1_a (d : Dev nD) : V1 m d a' = m (aLoc d) :=
  (opIn (F := F)).result_of_not_mem _ (show a' ∉ ({v'} : Finset (DevRef τ sig)) by decide)
theorem V1_o (d : Dev nD) : V1 m d o' = m (oLoc d) :=
  (opIn (F := F)).result_of_not_mem _ (show o' ∉ ({v'} : Finset (DevRef τ sig)) by decide)
theorem V1_r (d : Dev nD) : V1 m d r' = m (rLoc d) :=
  (opIn (F := F)).result_of_not_mem _ (show r' ∉ ({v'} : Finset (DevRef τ sig)) by decide)
theorem V2_a (d : Dev nD) : V2 m d a' = m (aLoc d) := (Function.update_of_ne (show a' ≠ o' by decide) _ _).trans (V1_a m d)
theorem V2_v (d : Dev nD) : V2 m d v' = Xv m d := Function.update_of_ne (show v' ≠ o' by decide) _ _
theorem V2_o (d : Dev nD) : V2 m d o' = picked (Xv m d) := Function.update_self _ _ _
theorem V2_r (d : Dev nD) : V2 m d r' = m (rLoc d) := (Function.update_of_ne (show r' ≠ o' by decide) _ _).trans (V1_r m d)

/-- The operand is the argument's elements at the shape of groups of four rows. -/
theorem Xv_eq (d : Dev nD) : Xv m d = shapeCast S4096x4x2048 (m (aLoc d)) shapeCasts_S4x4096x2048_S4096x4x2048 := by
  show (opIn (F := F)).result (V0 m d) v' = _
  refine (StableHlo.reshape_result main_arg0 main_v0 (rfl : (.f32 : EltTy) = .f32) shapeCasts_S4x4096x2048_S4096x4x2048 _ _ (V0 m d)).trans ?_
  rfl

/-- The result: group, keep the first row of each group, ungroup. -/
theorem Rv_eq (d : Dev nD) :
    Rv m d = shapeCast S4x1024x2048 (picked (shapeCast S4096x4x2048 (m (aLoc d)) shapeCasts_S4x4096x2048_S4096x4x2048))
      shapeCasts_S4096x1x2048_S4x1024x2048 := by
  refine (StableHlo.reshape_result main_v1 main_v2 (rfl : (.f32 : EltTy) = .f32) shapeCasts_S4096x1x2048_S4x1024x2048 _ _ (V2 m d)).trans ?_
  show shapeCast S4x1024x2048 (V2 m d o') shapeCasts_S4096x1x2048_S4x1024x2048 = _
  rw [V2_o, Xv_eq]

/-! ## What is handed over -/

/-- The grid point of task `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A task's share of the arrays, before and after. -/
abbrev goPts (d : Dev nD) (c : Fin (grid0.bound 0)) (s : Fin (grid0.bound 1)) : sProp 𝕄 :=
  iprop(srcPts d (coordsV c s) (Xv m d) ∗ dstPts d (coordsV c s) (m (oLoc d)))
abbrev tdPts (d : Dev nD) (c : Fin (grid0.bound 0)) (s : Fin (grid0.bound 1)) : sProp 𝕄 :=
  iprop(srcPts d (coordsV c s) (Xv m d) ∗ dstPts d (coordsV c s) (picked (Xv m d)))

/-- The handshakes' payloads: a SparseCore is handed its tasks' shares, each task its own. -/
def P : (K (F := F)).Pay (nD := nD) (Val := Elt F) (Name := ℕ) (U := UU) where
  st := fun q d => match q with | 0 => fun c => bigSep Finset.univ fun s => goPts m d c s
  dn := fun q d => match q with | 0 => fun c => bigSep Finset.univ fun s => tdPts m d c s
  go := fun q d => match q with | 0 => fun c s => goPts m d c s
  td := fun q d => match q with | 0 => fun c s => tdPts m d c s
  x := fun _ _ => iprop(emp)

instance P_storable : (P (F := F) m).IsStorable where
  st q d c := match q with
    | 0 => (inferInstance : BI.Storable (upEmb : UEmb _ 𝕄) (bigSep Finset.univ fun s => goPts m d c s))
  dn q d c := match q with
    | 0 => (inferInstance : BI.Storable (upEmb : UEmb _ 𝕄) (bigSep Finset.univ fun s => tdPts m d c s))
  go q d c s := match q with
    | 0 => (inferInstance : BI.Storable (upEmb : UEmb _ 𝕄) (goPts m d c s))
  td q d c s := match q with
    | 0 => (inferInstance : BI.Storable (upEmb : UEmb _ 𝕄) (tdPts m d c s))

/-! ## The obligations of the launch -/

theorem defs₀_vector (c : Fin τ.nSC) (s : Fin τ.nSub) :
    defs₀ (F := F) (.scVector c s) 0 ()
      = SparseCore.onTile hcore0 hsub0 (fun c s => cc0__copy_body (coordsV c s) vM (Memref.isWhole_whole _) oM (Memref.isWhole_whole _)
          cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tileRun d (coordsV ⟨_, hci.1⟩ ⟨_, hci.2⟩) (Xv m d) (m (oLoc d)) O W hO).trans (wp_mono frame _ _ fun _ => obl_post)

/-- A SparseCore's payload is its tasks'. -/
theorem vecSplit : (K (F := F)).VecSplit' (P m) 0 := by
  intro d c
  show (bigSep Finset.univ fun s => goPts m d c s) ⊢ |={Set.univ}=> iprop(
      (bigSep Finset.univ fun s => goPts m d c s)
      ∗ ((bigSep Finset.univ fun s => tdPts m d c s) -∗ (bigSep Finset.univ fun s => tdPts m d c s)))
  iintro H; imodintro
  isplitl [H]; · iexact H
  iintro H; iexact H

/-- The launch's ghost state: the handshakes' rounds. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays split among the tasks and join -/

/-- A task: its SparseCore and its subcore. -/
abbrev Task : Type := Fin (grid0.bound 0) × Fin (grid0.bound 1)
abbrev pt (t : Task) : grid0.Coords := coordsV t.1 t.2

theorem wid_pt (t : Task) : wid (pt t) = 2 * t.2.val + t.1.val := rfl

theorem wid_inj {t u : Task} (h : wid (pt t) = wid (pt u)) : t = u := by
  have ht : t.1.val < 2 := t.1.isLt
  have hu : u.1.val < 2 := u.1.isLt
  rw [wid_pt, wid_pt] at h
  exact Prod.ext (Fin.ext (by omega)) (Fin.ext (by omega))

theorem src_disjoint (t u : Task) (h : t ≠ u) : Disjoint (srcSet (pt t)) (srcSet (pt u)) :=
  Finset.disjoint_left.mpr fun j ht hu => h (wid_inj ((of_mem_srcSet _ j ht).symm.trans (of_mem_srcSet _ j hu)))
theorem dst_disjoint (t u : Task) (h : t ≠ u) : Disjoint (dstSet (pt t)) (dstSet (pt u)) :=
  Finset.disjoint_left.mpr fun j ht hu => h (wid_inj (((mem_dstSet _ j).mp ht).symm.trans ((mem_dstSet _ j).mp hu)))

/-- Every row of the result is some task's. -/
theorem dst_cover : (Finset.univ : Finset Task).biUnion (fun t => dstSet (pt t)) = Finset.univ := by
  refine Finset.eq_univ_of_forall fun j => Finset.mem_biUnion.mpr ?_
  have hj : (j 0).val < 4096 := (j 0).isLt
  refine ⟨(⟨(j 0).val / 128 % 2, Nat.mod_lt _ (by decide)⟩, ⟨(j 0).val / 128 / 2, ?_⟩), Finset.mem_univ _, (mem_dstSet _ j).mpr ?_⟩
  · show _ < 16
    omega
  · rw [wid_pt]
    show (j 0).val / 128 = 2 * ((j 0).val / 128 / 2) + (j 0).val / 128 % 2
    omega

omit [FloatOps F] in
theorem dst_tasks (d : Dev nD) (f : Buf (Elt F) (oLoc d)) :
    (oLoc d ↦{fullShare} f : sProp 𝕄) = bigSep Finset.univ fun c => bigSep Finset.univ fun s => dstPts d (coordsV c s) f := by
  rw [← bigSep_univ_prod (fun t : Task => (dstPts d (pt t) f : sProp 𝕄)),
    ← pointsTo_biUnion Finset.univ (ℓ := oLoc d) (fun t : Task => dstSet (pt t)) (fun t _ u _ => dst_disjoint t u), dst_cover]; try rfl
omit [FloatOps F] in
theorem src_tasks (d : Dev nD) (f : Buf (Elt F) (vLoc d)) :
    (vLoc d ↦{fullShare} f : sProp 𝕄) ⊢ bigSep Finset.univ fun c => bigSep Finset.univ fun s => srcPts d (coordsV c s) f := by
  rw [← bigSep_univ_prod (fun t : Task => (srcPts d (pt t) f : sProp 𝕄)),
    ← pointsTo_biUnion Finset.univ (ℓ := vLoc d) (fun t : Task => srcSet (pt t)) (fun t _ u _ => src_disjoint t u)]
  exact (pointsTo_split_subset (Finset.subset_univ _)).1.trans sep_elim_left

omit [FloatOps F] in
/-- Two payloads for every task are one pair for every task. -/
theorem sep_tasks (A B : Fin (grid0.bound 0) → Fin (grid0.bound 1) → sProp 𝕄) :
    (bigSep Finset.univ fun c => bigSep Finset.univ fun s => iprop(A c s ∗ B c s))
      = iprop((bigSep Finset.univ fun c => bigSep Finset.univ fun s => A c s) ∗ bigSep Finset.univ fun c => bigSep Finset.univ fun s => B c s) :=
  (bigSep_congr fun c _ => bigSep_sep' Finset.univ (A c) (B c)).trans (bigSep_sep' Finset.univ _ _)

/-- What the SparseCores are handed, and what they hand back. -/
theorem st0_of (d : Dev nD) : iprop((vLoc d ↦{fullShare} Xv m d) ∗ oLoc d ↦{fullShare} m (oLoc d))
    ⊢ bigSep Finset.univ fun c : Fin ((K (F := F)).nCore 0) => (P m).st 0 d c := by
  rw [dst_tasks]
  exact (sep_mono_left (src_tasks d _)).trans (Entails.of_eq (sep_tasks (fun c s => srcPts d (coordsV c s) (Xv m d)) _).symm)
theorem dn0_to (d : Dev nD) : (bigSep Finset.univ fun c : Fin ((K (F := F)).nCore 0) => (P m).dn 0 d c)
    ⊢ iprop((bigSep Finset.univ fun c => bigSep Finset.univ fun s => srcPts d (coordsV c s) (Xv m d)) ∗ oLoc d ↦{fullShare} picked (Xv m d)) := by
  rw [dst_tasks]
  exact Entails.of_eq (sep_tasks (fun c s => srcPts d (coordsV c s) (Xv m d)) (fun c s => dstPts d (coordsV c s) (picked (Xv m d))))

/-! ## @main on the TensorCore -/

/-- The arrays of the first operation, and of the second. -/
abbrev SIn : Finset (DevRef τ sig) := {a', v'}
abbrev SOut : Finset (DevRef τ sig) := {o', r'}

omit [FloatOps F] in
theorem held_SIn (d : Dev nD) (W : Valuation τ sig (Elt F)) :
    (held (SparseCore.T d) SIn W : sProp 𝕄) = iprop((aLoc d ↦{fullShare} W a') ∗ vLoc d ↦{fullShare} W v') := by
  unfold held SIn
  rw [SparseCore.bigSep_insert' (by decide), bigSep_singleton]
omit [FloatOps F] in
theorem held_SOut (d : Dev nD) (W : Valuation τ sig (Elt F)) :
    (held (SparseCore.T d) SOut W : sProp 𝕄) = iprop((oLoc d ↦{fullShare} W o') ∗ rLoc d ↦{fullShare} W r') := by
  unfold held SOut
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (vLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem hIn : (opIn (F := F)).bufs ⊆ SIn := show ({a', v'} : Finset (DevRef τ sig)) ⊆ SIn by decide
theorem hOut : (opOut (F := F)).bufs ⊆ SOut := show ({o', r'} : Finset (DevRef τ sig)) ⊆ SOut by decide

/-- The first operation's arrays before and after it, the second's before and after it. -/
theorem in_before (d : Dev nD) : (held (SparseCore.T d) SIn (V0 m d) : sProp 𝕄) = iprop((aLoc d ↦{fullShare} m (aLoc d)) ∗ vLoc d ↦{fullShare} m (vLoc d)) :=
  held_SIn d _
theorem in_after (d : Dev nD) : (held (SparseCore.T d) SIn ((opIn (F := F)).result (V0 m d)) : sProp 𝕄)
    = iprop((aLoc d ↦{fullShare} m (aLoc d)) ∗ vLoc d ↦{fullShare} Xv m d) := by
  show held (SparseCore.T d) SIn (V1 m d) = _
  rw [held_SIn, V1_a]; rfl
theorem out_before (d : Dev nD) : (held (SparseCore.T d) SOut (V2 m d) : sProp 𝕄)
    = iprop((oLoc d ↦{fullShare} picked (Xv m d)) ∗ rLoc d ↦{fullShare} m (rLoc d)) := by
  rw [held_SOut, V2_o, V2_r]
theorem out_after (d : Dev nD) : (held (SparseCore.T d) SOut ((opOut (F := F)).result (V2 m d)) : sProp 𝕄)
    = iprop((oLoc d ↦{fullShare} (opOut (F := F)).result (V2 m d) o') ∗ rLoc d ↦{fullShare} Rv m d) :=
  held_SOut d _

/-- What @main leaves: the argument's array as it was, the result's at `Rv`. -/
abbrev FIN (d : Dev nD) : sProp 𝕄 := iprop((aLoc d ↦{fullShare} m (aLoc d)) ∗ rLoc d ↦{fullShare} Rv m d)

/-- @main on device `d`: the first operation, the call, the second operation. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hv, Ho, Hr⟩, Hts, -⟩, -⟩
  iapply (wp_hlo_within 𝒱 (SparseCore.T d) none Set.univ (op := opIn) (S := SIn) hIn (V := V0 m d)) $$ [Hb Ha Hv]
  · isplitl [Hb]; · iexact Hb
    rw [in_before]
    isplitl [Ha]; · iexact Ha
    iexact Hv
  iintro ⟨Hb, Hheld⟩
  ihave Hh := (Entails.of_eq (in_after (F := F) m d)) $$ Hheld
  icases Hh with ⟨Ha, Hv⟩
  rw [wp_ret]; imodintro
  iapply ((K (F := F)).wp_run (D (F := F)) 𝒱 (EH := EH) (P := P m) κ d 0) $$ [Hst Ha Hv Ho Hr Hb Hts]
  isplitr; · iexact Hctx
  isplitl [Hst]; · iexact Hst
  isplitl [Hv Ho]
  · iapply (st0_of (F := F) m d)
    isplitl [Hv]; · iexact Hv
    iexact Ho
  iintro ⟨Hst, Hdn⟩
  ihave Hdn' := (dn0_to (F := F) m d) $$ Hdn
  icases Hdn' with ⟨-, Ho⟩
  iapply (wp_hlo_within 𝒱 (SparseCore.T d) none Set.univ (op := opOut) (S := SOut) hOut (V := V2 m d)) $$ [Hb Ho Hr]
  · isplitl [Hb]; · iexact Hb
    rw [out_before]
    isplitl [Ho]; · iexact Ho
    iexact Hr
  iintro ⟨Hb, Hheld⟩
  ihave Hh := (Entails.of_eq (out_after (F := F) m d)) $$ Hheld
  icases Hh with ⟨-, Hr⟩
  rw [wp_ret]; imodintro; imodintro
  isplitl [Hst]; · iexact Hst
  isplitr [Hb Hts]
  · isplitl [Ha]; · iexact Ha
    iexact Hr
  isplitl [Hb] <;> iassumption

/-- What is read of device `d`'s final memory. -/
def fq (d : Dev nD) (s' : Phys nD τ sig (Elt F)) : Prop := s'.mem.mem (rLoc d) = Rv m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := Rv m d)) $$ [HSI Hr]
  · isplitl [HSI] <;> iassumption
  icases H with %hr
  ipureintro; exact ⟨funext fun i => hr i (Finset.mem_univ i), funext fun i => ha i (Finset.mem_univ i)⟩

/-! ## The program's run -/

def QC : PUnit × MemSt nD τ sig (Elt F) → Prop :=
  fun r => (∀ c : Dev nD, r.2.mem (rLoc c) = Rv m c ∧ r.2.mem (aLoc c) = m (aLoc c)) ∧ r.2.sem = fun _ => 0

/-- Every run from `m` ends, with every semaphore back at zero, the result's array at `Rv`, the argument's as it was. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Downsample

end
-- ==== Proof.KernelRun.lean ====
/-
  The run of `Cert.Kernel`. Its text is that of `Cert.KernelIdeal`, and Launch.lean's run is stated for any float values,
  so the same proof serves.
-/
module

public import proofs.«01_k».proof.Proof.Launch
public import proofs.«01_k».proof.Proof.Gen.Kernel

@[expose] public section

noncomputable section

namespace Cert.Proof.Downsample

open Idealize.ShloMosaic Idealize.SL.Sem

variable {F : FTy → Type} [FloatOps F]

/-- Every run of `Cert.Kernel` is quiescent, keeps the argument's array and leaves `Rv` in the result's. -/
theorem run_kernel [∀ e, Nonempty (Elt F e)]
    (m : (ℓ : Loc Cert.Kernel.nD Cert.Kernel.τ Cert.Kernel.sig) → Buf (Elt F) ℓ) (ρ : Dev Cert.Kernel.nD → PrngReg) :
    θ_run (Cert.Kernel.defs (F := F)) (Cert.Kernel.threads (F := F)) ⟨m, fun _ => 0, ρ⟩ (QC m) :=
  run_main m ρ

end Cert.Proof.Downsample

end
-- ==== Proof.KernelValue.lean ====
/-
  The kernel's result as a function of its argument, for any float values: result element `(b, h, k)` is argument element
  `(b, 4 h, k)`.
-/
module

public import proofs.«01_k».proof.Proof.Launch

@[expose] public section

noncomputable section

namespace Cert.Proof.Downsample

open Cert.KernelIdeal Cert.KernelIdeal.Gen Idealize.ShloMosaic

variable {α : Type}

/-- Where result element `j` is read: row `4 h` for row `h`. -/
def fourth (j : S4x1024x2048.Idx) : S4x4096x2048.Idx := fun
  | 0 => j 0
  | 1 => ⟨4 * (j 1).val, by
      have h : (j 1).val < 1024 := (j 1).isLt
      show 4 * (j 1).val < 4096
      omega⟩
  | 2 => j 2

/-- Row `1024 b + h` of the ungrouped array: what row `h` of batch `b` of the result is read from. -/
def flatRow (j : S4x1024x2048.Idx) : S4096x1x2048.Idx := fun
  | 0 => ⟨1024 * (j 0).val + (j 1).val, by
      have h0 : (j 0).val < 4 := (j 0).isLt
      have h1 : (j 1).val < 1024 := (j 1).isLt
      show 1024 * (j 0).val + (j 1).val < 4096
      omega⟩
  | 1 => (0 : Fin 1)
  | 2 => j 2

/-- The same row among the groups of four. -/
def groupRow (j : S4x1024x2048.Idx) : S4096x4x2048.Idx := fun
  | 0 => flatRow j 0
  | 1 => (0 : Fin 4)
  | 2 => j 2

/-- Ungrouping reads result element `(b, h, k)` from row `1024 b + h`, -/
theorem ungroup_at (j : S4x1024x2048.Idx) : Shape.reshapeEquiv shapeCasts_S4096x1x2048_S4x1024x2048 j = flatRow j := by
  refine Shape.reshapeEquiv_eq_of_rowMajor _ ?_
  rw [Shape.rowMajor_val_three, Shape.rowMajor_val_three]
  show ((1024 * (j 0).val + (j 1).val) * 1 + 0) * 2048 + (j 2).val = ((j 0).val * 1024 + (j 1).val) * 2048 + (j 2).val
  omega

/-- and the first row of that group of four is row `4 h` of batch `b`. -/
theorem group_at (j : S4x1024x2048.Idx) : Shape.reshapeEquiv shapeCasts_S4x4096x2048_S4096x4x2048 (groupRow j) = fourth j := by
  refine Shape.reshapeEquiv_eq_of_rowMajor _ ?_
  rw [Shape.rowMajor_val_three, Shape.rowMajor_val_three]
  show ((j 0).val * 4096 + 4 * (j 1).val) * 2048 + (j 2).val = ((1024 * (j 0).val + (j 1).val) * 4 + 0) * 2048 + (j 2).val
  omega

/-- Group, keep the first row of each group, ungroup: every fourth row. -/
theorem kernel_value (x : S4x4096x2048.Idx → α) :
    shapeCast S4x1024x2048 (picked (shapeCast S4096x4x2048 x shapeCasts_S4x4096x2048_S4096x4x2048)) shapeCasts_S4096x1x2048_S4x1024x2048
      = fun j => x (fourth j) := by
  funext j
  show picked (shapeCast S4096x4x2048 x _) (Shape.reshapeEquiv _ j) = _
  rw [ungroup_at]
  refine Eq.trans (b := x (Shape.reshapeEquiv shapeCasts_S4x4096x2048_S4096x4x2048 (groupRow j))) ?_ (congrArg x (group_at j))
  exact congrArg (fun i => x (Shape.reshapeEquiv shapeCasts_S4x4096x2048_S4096x4x2048 i)) (funext fun a => by fin_cases a <;> rfl)

end Cert.Proof.Downsample

end
-- ==== Proof.ReferenceValue.lean ====
/-
  The reference's result as a function of its argument, for any float values: result element `(b, h, k)` is argument
  element `(b, 4 h, k)`. The reference makes the row numbers `0, 4, 8, …` as words, adds 4096 to those below zero, gathers
  the rows at them, and replaces by NaN what a row number outside the argument gave; none is below zero or outside.
-/
module

public import proofs.«01_k».proof.Proof.Gen.ReferenceIdeal.Run
public import proofs.«01_k».proof.Proof.KernelValue
public import Idealize.ShloMosaic.Lib.ReduceAll

@[expose] public section

noncomputable section

namespace Cert.Proof.Take

open Cert.ReferenceIdeal Cert.ReferenceIdeal.Gen Idealize.ShloMosaic
open Cert.Proof.Downsample (fourth)

/-! ## The row numbers -/

/-- The row numbers before the wrap of negative ones, -/
def rows : IVec S1024 32 :=
  addi (broadcastInDim S1024 ![] bcast_S_S1024 (constantI S_ 32 0#32))
    (muli (broadcastInDim S1024 ![] bcast_S_S1024 (constantI S_ 32 4#32)) (iotaInDim S1024 32 0))
/-- and after it, as a column. -/
def starts : IVec S1024x1 32 :=
  broadcastInDim S1024x1 ![0] bcast_S1024_S1024x1_0
    (select (cmpi .slt rows (broadcastInDim S1024 ![] bcast_S_S1024 (constantI S_ 32 0#32)))
      (addi rows (broadcastInDim S1024 ![] bcast_S_S1024 (constantI S_ 32 4096#32))) rows)
/-- Which of them are rows of the argument. -/
def inside : IVec S1024 1 :=
  Host.reduce IntOp.andi
    (andi (cmpi .sge starts (broadcastInDim S1024x1 ![] bcast_S_S1024x1 (constantI S_ 32 0#32)))
      (cmpi .sle starts (broadcastInDim S1024x1 ![0, 1] bcast_S1x1_S1024x1_0_1
        (broadcastInDim S1x1 ![1] bcast_S1_S1x1_1 (constantI S1 32 4095#32)))))
    (constantI S_ 1 1#1) reducesTo_S1024x1_S1024_d1 h_S_

/-- The word `4 n` is the integer `4 n`. -/
theorem word_toInt {n : ℕ} (hn : n < 1024) : (BitVec.ofNat 32 (4 * n)).toInt = 4 * n := by
  have h : (BitVec.ofNat 32 (4 * n)).toNat = 4 * n := by rw [BitVec.toNat_ofNat]; omega
  rw [BitVec.toInt_eq_toNat_of_lt (by rw [h]; omega), h]
  push_cast
  rfl

/-- Row number `h` is `4 h` before the wrap, -/
theorem rows_at (i : S1024.Idx) : rows i = BitVec.ofNat 32 (4 * (i 0).val) := by
  show 0#32 + 4#32 * BitVec.ofNat 32 (i 0).val = _
  rw [BitVec.zero_add, BitVec.ofNat_mul]

/-- and after it. -/
theorem starts_at (i : S1024x1.Idx) : starts i = BitVec.ofNat 32 (4 * (i 0).val) := by
  have hi : (i 0).val < 1024 := (i 0).isLt
  have hr : ∀ k : S1024.Idx, (k 0).val = (i 0).val → rows k = BitVec.ofNat 32 (4 * (i 0).val) := fun k hk => by rw [rows_at, hk]
  show Scalar.select (IntOp.cmpi .slt (rows _) 0#32) (rows _ + 4096#32) (rows _) = _
  rw [hr _ rfl]
  have h0 : (BitVec.ofNat 32 (4 * (i 0).val)).slt 0#32 = false := by
    rw [BitVec.slt_eq_decide, word_toInt hi]
    exact decide_eq_false (by rw [BitVec.toInt_zero]; omega)
  show Scalar.select (BitVec.ofBool ((BitVec.ofNat 32 (4 * (i 0).val)).slt 0#32)) _ _ = _
  rw [h0]
  rfl

/-- Every one is a row of the argument. -/
theorem inside_at (i : S1024.Idx) : inside i = 1#1 := by
  refine Host.reduce_andi_one _ _ _ _ i rfl fun k => ?_
  have hk : (k 0).val < 1024 := (k 0).isLt
  show IntOp.andi (BitVec.ofBool ((0#32).sle (starts k))) (BitVec.ofBool ((starts k).sle 4095#32)) = 1#1
  have h0 : (0#32).sle (starts k) = true := by
    rw [starts_at, BitVec.sle_eq_decide, word_toInt hk]
    exact decide_eq_true (by rw [BitVec.toInt_zero]; omega)
  have h1 : (starts k).sle 4095#32 = true := by
    rw [starts_at, BitVec.sle_eq_decide, word_toInt hk]
    exact decide_eq_true (by
      rw [show (4095#32 : BitVec 32).toInt = 4095 by decide]
      omega)
  rw [h0, h1]
  rfl

/-! ## The gather -/

/-- The gather's dimensions: the rows are on the argument's middle axis. -/
abbrev dims : GatherDims S4x4096x2048 S1024x1 S4x1024x2048 := gather_S4x4096x2048_S1024x1_S4x1024x2048_02_1_n_n_1_1_412048

/-- Result element `(b, h, k)` is gathered from `(b, 4 h, k)`. -/
theorem gather_idx (j : S4x1024x2048.Idx) : dims.operandIdx j starts = fourth j := by
  have hj : (j 1).val < 1024 := (j 1).isLt
  have hs : ∀ k : S1024x1.Idx, (k 0).val = (j 1).val → (starts k).toInt.toNat = 4 * (j 1).val := fun k hk => by
    rw [starts_at, word_toInt (by omega), hk]; omega
  funext a
  refine Fin.ext ?_
  show dims.start j starts a + dims.batchCoord j a + dims.offCoord j a = (fourth j a).val
  rw [GatherDims.batchCoord_eq_zero _ _ _ (fun h => by cases h)]
  fin_cases a
  · show 0 + 0 + (j 0).val = (j 0).val
    omega
  · have h : dims.start j starts 1 = min (starts (dims.siIdx j ⟨0, by decide⟩)).toInt.toNat 4095 := rfl
    show dims.start j starts 1 + 0 + 0 = 4 * (j 1).val
    rw [h, hs _ rfl]
    omega
  · show 0 + 0 + (j 2).val = (j 2).val
    omega

/-! ## The result -/

variable {F : FTy → Type} [FloatOps F]

/-- The reference's result from its argument. -/
def taken (x : S4x4096x2048.Idx → F .f32) : S4x1024x2048.Idx → F .f32 :=
  select (broadcastInDim S4x1024x2048 ![1] bcast_S1024_S4x1024x2048_1 inside)
    (Host.gather dims x starts) (broadcastInDim S4x1024x2048 ![] bcast_S_S4x1024x2048 (constant S_ .f32 0x7FC00000#32))

/-- Every fourth row. -/
theorem taken_eq (x : S4x4096x2048.Idx → F .f32) : taken x = fun j => x (fourth j) := by
  funext j
  show Scalar.select (inside _) (x (dims.operandIdx j starts)) _ = _
  rw [inside_at, gather_idx]
  rfl

end Cert.Proof.Take

end
-- ==== Proof.lean ====
/-
  The certificate's proof: `Cert.Proof.claim : Cert.Claim` (proofs.«01_k».proof.Defs), from the kernel's run
  (Proof/Tile.lean one task, Proof/Launch.lean and Proof/KernelRun.lean all of it), the generated run of the reference, and
  the two results as functions of the argument (Proof/KernelValue.lean, Proof/ReferenceValue.lean): both keep every fourth
  row.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.KernelRun
public import proofs.«01_k».proof.Proof.KernelValue
public import proofs.«01_k».proof.Proof.ReferenceValue
public import Idealize.ShloMosaic.Lib.Quiescent

@[expose] public section

noncomputable section

namespace Cert.Proof

open Idealize.ShloMosaic Idealize.SL.Sem Cert.Proof.Downsample Cert.Proof.Take

/-! ## The frames -/

/-- The kernel runs quiescent and keeps its argument. -/
theorem frame_kernel : Cert.quiescent_Kernel := fun m g _ =>
  (θ_run Cert.Kernel.defs _ _).mono (fun _ h => ⟨fun c => (h.1 c).2, h.2⟩) (run_kernel m g)

/-- So does its idealization, -/
theorem frame_kernelIdeal : Cert.quiescent_KernelIdeal := fun m g _ =>
  (θ_run Cert.KernelIdeal.defs _ _).mono (fun _ h => ⟨fun c => (h.1 c).2, h.2⟩) (run_main m g)

/-- the reference, which has no semaphore at all, -/
theorem frame_reference : Cert.quiescent_Reference := fun m g _ =>
  (θ_run Cert.Reference.defs _ _).mono (fun r h => ⟨fun c => (h c).2, sem_eq_zero_of_no_sems rfl r.2⟩) (Cert.Reference.Value.run m g)

/-- and its idealization. -/
theorem frame_referenceIdeal : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-! ## The values -/

section

variable {F : FTy → Type} [FloatOps F]

/-- The kernel's result is the reference's. -/
theorem same_value (m : (ℓ : Loc Cert.KernelIdeal.nD Cert.KernelIdeal.τ Cert.KernelIdeal.sig) → Buf (Elt F) ℓ)
    (d : Dev Cert.KernelIdeal.nD) : taken (F := F) (m (aLoc d)) = Rv m d :=
  (taken_eq (m (aLoc d))).trans ((Rv_eq m d).trans (kernel_value (m (aLoc d)))).symm

end

/-- Over the extended reals kernel and reference end with equal results. -/
theorem algebraic : Cert.algebraic_KernelIdeal_ReferenceIdeal := by
  intro m g m' g' _ agree
  refine ⟨Rv m, (θ_run Cert.KernelIdeal.defs _ _).mono (fun _ h => h.1) (run_main m g),
    (θ_run Cert.ReferenceIdeal.defs _ _).mono (fun r h c => ⟨(h c).1.trans ?_, (h c).2⟩) (Cert.ReferenceIdeal.Value.run m' g')⟩
  rw [agree c]
  exact same_value m c

/-- So do they, bit for bit, over the machine's floats. -/
theorem bitexact : Cert.bitexact_Kernel_Reference := by
  intro m g m' g' _ agree
  refine ⟨Rv m, (θ_run Cert.Kernel.defs _ _).mono (fun _ h => h.1) (run_kernel m g),
    (θ_run Cert.Reference.defs _ _).mono (fun r h c => ⟨(h c).1.trans ?_, (h c).2⟩) (Cert.Reference.Value.run m' g')⟩
  rw [agree c]
  exact same_value m c

/-- Everything the certificate claims. -/
theorem claim : Cert.Claim :=
  ⟨Cert.Kernel.Gen.facts, Cert.KernelIdeal.Gen.facts, Cert.Reference.Gen.facts, Cert.ReferenceIdeal.Gen.facts,
    frame_kernel, frame_kernelIdeal, frame_reference, frame_referenceIdeal, trivial, algebraic, bitexact⟩

end Cert.Proof

end
